-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x512x512 : Shape := ⟨4, ![16, 64, 512, 512]⟩
abbrev S1 : Shape := ⟨1, ![1]⟩
abbrev S1024x512x512 : Shape := ⟨3, ![1024, 512, 512]⟩
abbrev S2 : Shape := ⟨1, ![2]⟩
abbrev S256x256 : Shape := ⟨2, ![256, 256]⟩
abbrev S_ : Shape := ⟨0, ![]⟩
abbrev S256x2x256 : Shape := ⟨3, ![256, 2, 256]⟩
abbrev S512x256 : Shape := ⟨2, ![512, 256]⟩
abbrev S1024x256x256 : Shape := ⟨3, ![1024, 256, 256]⟩
abbrev S16x512x512 : Shape := ⟨3, ![16, 512, 512]⟩
abbrev S16x256x256 : Shape := ⟨3, ![16, 256, 256]⟩
abbrev S8192x512 : Shape := ⟨2, ![8192, 512]⟩
abbrev S8192x256 : Shape := ⟨2, ![8192, 256]⟩
abbrev S16x256x2x256 : Shape := ⟨4, ![16, 256, 2, 256]⟩
abbrev S16x256x1x256 : Shape := ⟨4, ![16, 256, 1, 256]⟩
abbrev S16x64x256x256 : Shape := ⟨4, ![16, 64, 256, 256]⟩

abbrev nBuf : Space → Nat
  | .hbm => 16
  | .vmem => 5
  | .smem => 1
  | _ => 0

abbrev bufTy : (tb : Table) → Fin (tcTables nBuf tb) → BufTy
  | .hbm, ⟨0, _⟩ => ⟨S16x64x512x512, .f32⟩
  | .hbm, ⟨1, _⟩ => ⟨S1, .f32⟩
  | .hbm, ⟨2, _⟩ => ⟨S1, .f32⟩
  | .hbm, ⟨3, _⟩ => ⟨S1024x512x512, .f32⟩
  | .hbm, ⟨4, _⟩ => ⟨S2, .f32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S256x256, .f32⟩
  | .hbm, ⟨12, _⟩ => ⟨S256x2x256, .f32⟩
  | .hbm, ⟨13, _⟩ => ⟨S512x256, .f32⟩
  | .hbm, ⟨14, _⟩ => ⟨S1024x256x256, .f32⟩
  | .hbm, ⟨15, _⟩ => ⟨S16x64x256x256, .f32⟩
  | .local _ .vmem, ⟨0, _⟩ => ⟨S16x512x512, .f32⟩
  | .local _ .vmem, ⟨1, _⟩ => ⟨S16x512x512, .f32⟩
  | .local _ .vmem, ⟨2, _⟩ => ⟨S512x256, .f32⟩
  | .local _ .vmem, ⟨3, _⟩ => ⟨S16x256x256, .f32⟩
  | .local _ .vmem, ⟨4, _⟩ => ⟨S16x256x256, .f32⟩
  | .local _ .smem, ⟨0, _⟩ => ⟨S2, .f32⟩
  | _, _ => ⟨S16x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x64x512x512 : Shape := ⟨4, ![16, 64, 512, 512]⟩
abbrev S1 : Shape := ⟨1, ![1]⟩
abbrev S16x64x256x2x256x2 : Shape := ⟨6, ![16, 64, 256, 2, 256, 2]⟩
abbrev S_ : Shape := ⟨0, ![]⟩
abbrev S16x64x256x256 : Shape := ⟨4, ![16, 64, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S16x64x512x512, .f32⟩
  | .hbm, ⟨1, _⟩ => ⟨S1, .f32⟩
  | .hbm, ⟨2, _⟩ => ⟨S1, .f32⟩
  | .hbm, ⟨3, _⟩ => ⟨S16x64x256x2x256x2, .f32⟩
  | .hbm, ⟨4, _⟩ => ⟨S_, .f32⟩
  | .hbm, ⟨5, _⟩ => ⟨S16x64x256x256, .f32⟩
  | .hbm, ⟨6, _⟩ => ⟨S_, .f32⟩
  | .hbm, ⟨7, _⟩ => ⟨S16x64x256x256, .f32⟩
  | .hbm, ⟨8, _⟩ => ⟨S16x64x256x256, .f32⟩
  | .hbm, ⟨9, _⟩ => ⟨S_, .f32⟩
  | .hbm, ⟨10, _⟩ => ⟨S16x64x256x256, .f32⟩
  | .hbm, ⟨11, _⟩ => ⟨S16x64x256x256, .f32⟩
  | _, _ => ⟨S16x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Pool.lean ====
/-
  The mathematics of the problem, free of any program: `sumPool x a b` is the sum over the 2x2 windows of an image stack `x`
  followed by the affine map `a * · + b`, on the extended reals; and a sum of products against the "pair" column
  (one at the two positions `2w` and `2w + 1`, zero elsewhere) is the sum of the two entries that it selects.
-/
module

public import Idealize.ShloMosaic.PureOps.Ideal
public import Idealize.ShloMosaic.Lib.ValueIdxRank6

@[expose] public section

noncomputable section

namespace Cert.Pool

open Idealize.ShloMosaic Idealize.ShloMosaic.ValueIdx
open scoped BigOperators

/-- Position `2w + p` of an axis of 512, for `w` below 256 and `p` below 2. -/
abbrev twice (w : Fin 256) (p : Fin 2) : Fin 512 := ⟨2 * w.val + p.val, by omega⟩

/-- The entry of the pair matrix at row `k` and column `w`: one where `k` is `2w` or `2w + 1`, zero elsewhere. -/
def pairEntry (k : Fin 512) (w : Fin 256) : EReal := if k.val / 2 = w.val then 1 else 0

/-- A row of 512 entries times column `w` of the pair matrix is the sum of the entries at `2w` and `2w + 1`: every
    other product is a product with zero, which is zero on the extended reals whatever the entry. -/
theorem sum_mul_pairEntry (v : Fin 512 → EReal) (w : Fin 256) :
    ∑ k, v k * pairEntry k w = v (twice w 0) + v (twice w 1) := by
  have hne : twice w 0 ≠ twice w 1 := fun h => by simpa using congrArg Fin.val h
  rw [← Finset.sum_pair (f := v) hne]
  symm
  have hsub : ({twice w 0, twice w 1} : Finset (Fin 512)) ⊆ Finset.univ := Finset.subset_univ _
  rw [← Finset.sum_subset hsub (f := fun k => v k * pairEntry k w)]
  · refine Finset.sum_congr rfl fun k hk => ?_
    have hk' : k.val / 2 = w.val := by
      rcases Finset.mem_insert.mp hk with rfl | hk
      · show (2 * w.val + 0) / 2 = w.val; omega
      · rw [Finset.mem_singleton.mp hk]; show (2 * w.val + 1) / 2 = w.val; omega
    rw [pairEntry, if_pos hk', mul_one]
  · intro k _ hk
    have hk' : ¬ k.val / 2 = w.val := fun h => hk (by
      rcases Nat.mod_two_eq_zero_or_one k.val with h2 | h2
      · exact Finset.mem_insert.mpr (.inl (Fin.ext (by show k.val = 2 * w.val + 0; omega)))
      · exact Finset.mem_insert.mpr (.inr (Finset.mem_singleton.mpr (Fin.ext (by show k.val = 2 * w.val + 1; omega)))))
    rw [pairEntry, if_neg hk', mul_zero]

/-- THE PROBLEM: at image `(n, c)`, row `h` and column `w`, the sum of the 2x2 window of `x` times `a`, plus `b`. -/
def sumPool (x : (⟨4, ![16, 64, 512, 512]⟩ : Shape).Idx → EReal) (a b : EReal) :
    (⟨4, ![16, 64, 256, 256]⟩ : Shape).Idx → EReal :=
  fun j => a * (∑ p : Fin 2, ∑ q : Fin 2, x (ix4 (j 0) (j 1) (twice (j 2) p) (twice (j 3) q))) + b

end Cert.Pool

end
-- ==== Proof.Block.lean ====
/-
  What one grid step computes, at an index of its block: the payload of the body's one store, read at image `c`, row
  `h` and column `w`, for any contents of the two input blocks and any two scalars.
-/
module

public import proofs.«01_k».proof.Proof.Pool
public import proofs.«01_k».proof.Proof.Gen.KernelIdeal.Skeleton
public import Idealize.ShloMosaic.Lib.MatmulPlain
public import Idealize.ShloMosaic.Lib.ValueIdx
public import Idealize.ShloMosaic.Lib.Pipeline.Value

@[expose] public section

noncomputable section

namespace Cert.KernelIdeal.Block

open Cert.KernelIdeal Cert.KernelIdeal.Gen Cert.Pool
open Idealize.ShloMosaic Idealize.ShloMosaic.ValueIdx
open scoped BigOperators

/-- Row `(c, h')` of the block of images, laid out as one matrix of 8192 rows. -/
abbrev flatRow (c : Fin 16) (h : Fin 512) : Fin 8192 := ⟨c.val * 512 + h.val, by omega⟩

/-- The block laid out as a matrix, at `(c, h)` and column `k`, is the block at `(c, h, k)`. -/
theorem rows_apply (v : FVec Ideal S16x512x512 .f32) (c : Fin 16) (h k : Fin 512) :
    shapeCast S8192x512 v shapeCasts_S16x512x512_S8192x512 (ix2 (flatRow c h) k) = v (ix3 c h k) := by
  refine shapeCast_apply _ _ _ _ ?_
  rw [Shape.rowMajor_val_three, Shape.rowMajor_val_two]
  rfl

/-- One half of the vertical pair (`p = 0`: the even rows, `p = 1`: the odd rows) of the product's rows. -/
theorem half_apply (M : FVec Ideal S8192x256 .f32) (p : Fin 2) (off : Fin 4 → Nat) (hoff : off = ![0, 0, p.val, 0])
    (hs : S16x256x2x256.Slices off S16x256x1x256) (c : Fin 16) (h w : Fin 256) :
    shapeCast S16x256x256 (extractStridedSlice S16x256x1x256 off
        (shapeCast S16x256x2x256 M shapeCasts_S8192x256_S16x256x2x256) hs) shapeCasts_S16x256x1x256_S16x256x256 (ix3 c h w)
      = M (ix2 (flatRow c (twice h p)) w) := by
  subst hoff
  rw [shapeCast_apply (s := S16x256x1x256) _ _ (ix3 c h w) (ix4 c h 0 w)
    (by rw [Shape.rowMajor_val_four, Shape.rowMajor_val_three]; show ((c.val * 256 + h.val) * 1 + 0) * 256 + w.val = (c.val * 256 + h.val) * 256 + w.val; omega)]
  rw [extractStridedSlice_apply _ _ _ _ (ix4 c h p w) (fun a => by
    match a with
    | ⟨0, _⟩ => exact (Nat.zero_add _).symm
    | ⟨1, _⟩ => exact (Nat.zero_add _).symm
    | ⟨2, _⟩ => rfl
    | ⟨3, _⟩ => exact (Nat.zero_add _).symm)]
  refine shapeCast_apply _ _ _ _ ?_
  rw [Shape.rowMajor_val_two, Shape.rowMajor_val_four]
  show (c.val * 512 + (2 * h.val + p.val)) * 256 + w.val = ((c.val * 256 + h.val) * 2 + p.val) * 256 + w.val
  omega

/-- THE BLOCK: the stored payload at `(c, h, w)` is the scale times the sum of two rows of products, plus the offset. -/
theorem pay_apply (x : FVec Ideal S16x512x512 .f32) (P : FVec Ideal S512x256 .f32) (a b : EReal) (c : Fin 16) (h w : Fin 256) :
    k0_pay1 (F := Ideal) x P a b (ix3 c h w)
      = a * ((∑ k, x (ix3 c (twice h 0) k) * P (ix2 k w)) + ∑ k, x (ix3 c (twice h 1) k) * P (ix2 k w)) + b := by
  unfold k0_pay1
  rw [addf_apply, mulf_apply, addf_apply, broadcast_apply, broadcast_apply,
    half_apply _ 0 ![0, 0, 0, 0] rfl, half_apply _ 1 ![0, 0, 1, 0] rfl]
  have row (p : Fin 2) : matmul dot_S8192x512_S512x256_S8192x256_1_0_0_1_n_n none
      (shapeCast S8192x512 (shapeCast S16x512x512 x shapeCasts_S16x512x512_S16x512x512) shapeCasts_S16x512x512_S8192x512)
      (shapeCast S512x256 P shapeCasts_S512x256_S512x256) (constant (F := Ideal) S8192x256 .f32 0x00000000#32)
      (ix2 (flatRow c (twice h p)) w) = ∑ k, x (ix3 c (twice h p) k) * P (ix2 k w) := by
    rw [shapeCast_self, shapeCast_self]
    refine (Ideal.matmul_plain_apply (M := 8192) (K := 512) (N := 256) none _ P _ (flatRow c (twice h p)) w).trans ?_
    rw [constant_apply, Ideal.ofBits_zero_f32, zero_add]
    exact Finset.sum_congr rfl fun k _ => congrArg (· * P (ix2 k w)) (rows_apply x c (twice h p) k)
  rw [row 0, row 1]

end Cert.KernelIdeal.Block

end
-- ==== Proof.Host.lean ====
/-
  What the region finds in the three arrays that the host code prepares: the images with their two leading axes
  merged, the two scalars side by side, and the pair matrix; each read at an index.
-/
module

public import proofs.«01_k».proof.Proof.Pool
public import proofs.«01_k».proof.Proof.Gen.KernelIdeal.Frame
public import Idealize.ShloMosaic.Lib.StableHlo.Run
public import Idealize.ShloMosaic.Lib.ValueIdx
public import Idealize.ShloMosaic.Lib.WordCmp
public import Idealize.ShloMosaic.Lib.Pipeline.Value

@[expose] public section

noncomputable section

namespace Cert.KernelIdeal.Host

open Cert.KernelIdeal Cert.KernelIdeal.Gen Cert.Pool
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- Device `c`'s images, as launched. -/
abbrev argX (c : Dev nD) : FVec Ideal S16x64x512x512 .f32 := m ((c : Thread nD τ).loc main_arg0)
/-- Device `c`'s coefficient and bias, as launched. -/
abbrev argA (c : Dev nD) : EReal := (m ((c : Thread nD τ).loc main_arg1) : FVec Ideal S1 .f32) (ix1 0)
abbrev argB (c : Dev nD) : EReal := (m ((c : Thread nD τ).loc main_arg2) : FVec Ideal S1 .f32) (ix1 0)

/-- The region finds the images reshaped. -/
theorem V_images (c : Dev nD) :
    V m c main_v0 = shapeCast S1024x512x512 (argX m c) shapeCasts_S16x64x512x512_S1024x512x512 := by
  show StableHlo.after (List.flatten [hostOps0]) _ _ = _
  simp only [List.flatten_cons, List.flatten_nil, List.append_nil]
  after_results
  rfl

/-- … and the two scalars concatenated. -/
theorem V_scalars (c : Dev nD) :
    V m c main_v1 = concatenate S2 0 [⟨S1, (m ((c : Thread nD τ).loc main_arg1) : FVec Ideal S1 .f32)⟩, ⟨S1, (m ((c : Thread nD τ).loc main_arg2) : FVec Ideal S1 .f32)⟩] concatenates_S1_S1_S2_d0 := by
  show StableHlo.after (List.flatten [hostOps0]) _ _ = _
  simp only [List.flatten_cons, List.flatten_nil, List.append_nil]
  after_results

/-- … and the identity matrix with every row repeated. -/
theorem V_pair (c : Dev nD) :
    V m c main_v9 = shapeCast S512x256 (broadcastInDim S256x2x256 ![0, 2] bcast_S256x256_S256x2x256_0_2
      (uitofp (F := Ideal) .f32 (cmpi .eq (addi (iotaInDim S256x256 32 0) (broadcastInDim S256x256 ![] bcast_S_S256x256 (constantI S_ 32 0#32)))
        (iotaInDim S256x256 32 1)))) shapeCasts_S256x2x256_S512x256 := by
  show StableHlo.after (List.flatten [hostOps0]) _ _ = _
  simp only [List.flatten_cons, List.flatten_nil, List.append_nil]
  after_results
  rfl

/-- Image `n` of the merged stack is image `(n / 64, n % 64)`. -/
theorem images_apply (c : Dev nD) (n : Fin 1024) (h w : Fin 512) :
    V m c main_v0 (ix3 n h w) = argX m c (ix4 ⟨n.val / 64, by omega⟩ ⟨n.val % 64, by omega⟩ h w) := by
  rw [V_images]
  refine shapeCast_apply _ _ _ _ ?_
  rw [Shape.rowMajor_val_four, Shape.rowMajor_val_three]
  show ((n.val / 64 * 64 + n.val % 64) * 512 + h.val) * 512 + w.val = (n.val * 512 + h.val) * 512 + w.val
  omega

/-- The first scalar is the coefficient, the second the bias. -/
theorem scalars_zero (c : Dev nD) : V m c main_v1 (ix1 0) = argA m c := by
  rw [V_scalars]
  exact concatenate_pair_apply_left (t := S2) (s₁ := S1) (s₂ := S1) 0 _ _ _ (ix1 0) rfl (ix1 0) (fun b => by
    match b with
    | ⟨0, _⟩ => rfl)
theorem scalars_one (c : Dev nD) : V m c main_v1 (ix1 1) = argB m c := by
  rw [V_scalars]
  exact concatenate_pair_apply_right (t := S2) (s₁ := S1) (s₂ := S1) 0 _ _ _ (ix1 1) rfl rfl (ix1 0) (fun b hb => by
    match b with
    | ⟨0, _⟩ => exact absurd rfl hb) rfl

/-- The equality of two positions below 256, as 32-bit words, converted to a float: one or zero. -/
theorem eq_word (i j : Fin 256) :
    FloatOps.uitofp (F := Ideal) .f32 (IntOp.cmpi .eq (IntOp.addi (BitVec.ofNat 32 i.val) 0#32) (BitVec.ofNat 32 j.val))
      = (if i.val = j.val then (1 : EReal) else 0) := by
  have h0 : IntOp.addi (BitVec.ofNat 32 i.val) 0#32 = BitVec.ofNat 32 i.val := BitVec.add_zero _
  rw [h0, WordCmp.cmpi_eq_ofNat (by omega) (by omega)]
  show (((BitVec.ofBool (decide (i.val = j.val))).toNat : ℝ) : EReal) = _
  by_cases h : i.val = j.val <;> simp [h]

/-- The pair matrix at row `k` and column `w`. -/
theorem pair_apply (c : Dev nD) (k : Fin 512) (w : Fin 256) : V m c main_v9 (ix2 k w) = pairEntry k w := by
  rw [V_pair]
  rw [shapeCast_apply (s := S256x2x256) _ _ (ix2 k w) (ix3 ⟨k.val / 2, by omega⟩ ⟨k.val % 2, by omega⟩ w)
    (by rw [Shape.rowMajor_val_three, Shape.rowMajor_val_two]; show (k.val / 2 * 2 + k.val % 2) * 256 + w.val = k.val * 256 + w.val; omega)]
  rw [broadcastInDim_apply _ _ _ _ (ix2 ⟨k.val / 2, by omega⟩ w) (fun a => by
    match a with
    | ⟨0, _⟩ => rfl
    | ⟨1, _⟩ => rfl)]
  exact eq_word ⟨k.val / 2, by omega⟩ w

end Cert.KernelIdeal.Host

end
-- ==== Proof.Array.lean ====
/-
  The array that the region leaves, as one function of the arguments, and the kernel's run: the reshape that
  follows the region splits the leading axis again, and the result is `sumPool` of the arguments.
-/
module

public import proofs.«01_k».proof.Proof.Block
public import proofs.«01_k».proof.Proof.Host
public import Idealize.ShloMosaic.Lib.Pipeline.ValueKit.Geometry
public import Idealize.ShloMosaic.Lib.Pipeline.ValueKit.Acc

@[expose] public section

noncomputable section

namespace Cert.KernelIdeal.Pooled

open Cert.KernelIdeal Cert.KernelIdeal.Gen Cert.KernelIdeal.Block Cert.KernelIdeal.Host Cert.Pool
open Idealize.ShloMosaic Idealize.ShloMosaic.TcCoe Idealize.ShloMosaic.ValueIdx Idealize.ShloMosaic.StableHlo
open Idealize.ShloMosaic.Pipeline (Dat)
open Idealize.SL.Sem
open scoped BigOperators

variable (m : (ℓ : Loc nD τ sig) → Buf (Elt Ideal) ℓ) (ρ : Dev nD → PrngReg)

/-- Step `t` reads and writes block `t` of the stack of images. -/
theorem index_in : ∀ t : Fin cfg0.N, win0_1.index t = ![t.val, 0, 0] :=
  (by decide +kernel : ∀ t : Fin grid0.N, win0_1.index t = ![t.val, 0, 0])
theorem index_out : ∀ t : Fin cfg0.N, win0_3.index t = ![t.val, 0, 0] :=
  (by decide +kernel : ∀ t : Fin grid0.N, win0_3.index t = ![t.val, 0, 0])
/-- The scalars and the pair matrix are one block each. -/
theorem index_scalars : ∀ t : Fin cfg0.N, win0_0.index t = ![0] :=
  (by decide +kernel : ∀ t : Fin grid0.N, win0_0.index t = ![0])
theorem index_pair : ∀ t : Fin cfg0.N, win0_2.index t = ![0, 0] :=
  (by decide +kernel : ∀ t : Fin grid0.N, win0_2.index t = ![0, 0])

/-- The array that the region leaves on device `c`: image `n` of the merged stack, pooled. -/
def merged (c : Dev nD) : FVec Ideal S1024x256x256 .f32 := fun i =>
  sumPool (argX m c) (argA m c) (argB m c)
    (ix4 ⟨(i 0).val / 64, by have : (i 0).val < 1024 := (i 0).isLt; omega⟩ ⟨(i 0).val % 64, by omega⟩ (i 1) (i 2))

/-- The two blocks that step `t` finds: sixteen images, and the pair matrix. -/
abbrev blockX (c : Dev nD) (t : Fin cfg0.N) : FVec Ideal S16x512x512 .f32 := iblk m c 1 t
abbrev blockP (c : Dev nD) (t : Fin cfg0.N) : FVec Ideal S512x256 .f32 := iblk m c 2 t

/-- Image `a` of the block that step `t` finds is image `16 t + a` of the merged stack. -/
theorem block_images (c : Dev nD) (t : Fin cfg0.N) (a : Fin 16) (h k : Fin 512) (n : Fin 1024) (hn : n.val = t.val * 16 + a.val) :
    blockX m c t (ix3 a h k) = argX m c (ix4 ⟨n.val / 64, by omega⟩ ⟨n.val % 64, by omega⟩ h k) := by
  rw [← images_apply m c n h k]
  blk_simp [iblk]
  refine congrArg (V m c main_v0) ?_
  blk_ext [index_in]
  exact hn.symm

/-- The pair matrix's block is the pair matrix. -/
theorem block_pair (c : Dev nD) (t : Fin cfg0.N) (k : Fin 512) (w : Fin 256) : blockP m c t (ix2 k w) = pairEntry k w := by
  rw [← pair_apply m c k w]
  blk_simp [iblk]
  refine congrArg (V m c main_v9) ?_
  blk_ext [index_pair]

/-- The two words that the body loads are the coefficient and the bias. -/
theorem word_zero (c : Dev nD) (t : Fin cfg0.N) (i : S1.Idx) :
    View.ld (iblk m c 0 t) (Rect.unit ![0] ![1] inb_S2_S1_0) i = argA m c := by
  rw [← scalars_zero m c]
  blk_simp [iblk]
  refine congrArg (V m c main_v1) ?_
  blk_ext [index_scalars]
  show 0 + 1 * (i 0).val = 0
  omega
theorem word_one (c : Dev nD) (t : Fin cfg0.N) (i : S1.Idx) :
    View.ld (iblk m c 0 t) (Rect.unit ![1] ![1] inb_S2_S1_1) i = argB m c := by
  rw [← scalars_one m c]
  blk_simp [iblk]
  refine congrArg (V m c main_v1) ?_
  blk_ext [index_scalars]
  show 1 + 1 * (i 0).val = 1
  omega

/-- WHAT STEP `t` WRITES at image `a`, row `h` and column `w` of its block. -/
theorem step_apply (c : Dev nD) (t : Fin cfg0.N) (a : Fin 16) (h w : Fin 256) (n : Fin 1024) (hn : n.val = t.val * 16 + a.val) :
    k0_pay1 (blockX m c t) (blockP m c t) (argA m c) (argB m c) (ix3 a h w) = merged m c (ix3 n h w) := by
  refine (pay_apply (blockX m c t) (blockP m c t) _ _ a h w).trans ?_
  have row (p : Fin 2) : ∑ k, blockX m c t (ix3 a (twice h p) k) * blockP m c t (ix2 k w)
      = ∑ q : Fin 2, argX m c (ix4 ⟨n.val / 64, by omega⟩ ⟨n.val % 64, by omega⟩ (twice h p) (twice w q)) := by
    rw [Fin.sum_univ_two, ← block_images m c t a (twice h p) (twice w 0) n hn, ← block_images m c t a (twice h p) (twice w 1) n hn,
      ← sum_mul_pairEntry (fun k => blockX m c t (ix3 a (twice h p) k)) w]
    exact Finset.sum_congr rfl fun k _ => congrArg (blockX m c t (ix3 a (twice h p) k) * ·) (block_pair m c t k w)
  refine congrArg (fun s => argA m c * s + argB m c) ?_
  rw [Fin.sum_univ_two]
  exact congrArg₂ (· + ·) (row 0) (row 1)

/-- The region's output array after the last step. -/
theorem array_eq (c : Dev nD) : (dats m 0 c).arrAt 3 cfg0.N = merged m c := by
  refine (dats m 0 c).arrAt_eq_of_covers 3 _ (by decide +kernel) fun t hf y => ?_
  blk_simp
  rw [after0_3]
  unfold outsAt0
  frame_out
  rw [word_zero, word_one]
  have ht : t.val < 64 := t.isLt
  have h0 : (y 0).val < 16 := (y 0).isLt
  have hy : y = ix3 (y 0) (y 1) (y 2) := by
    funext a
    match a with
    | ⟨0, _⟩ => rfl
    | ⟨1, _⟩ => rfl
    | ⟨2, _⟩ => rfl
  refine (congrArg (k0_pay1 (F := Ideal) (blockX m c t) (blockP m c t) (argA m c) (argB m c)) hy).trans ?_
  refine (step_apply m c t (y 0) (y 1) (y 2) ⟨t.val * 16 + (y 0).val, by omega⟩ rfl).trans ?_
  refine congrArg (merged m c) ?_
  blk_ext [index_out]

/-- The lines after the region leave the result: the output array with its leading axis split. -/
theorem result_eq (c : Dev nD) :
    Pipeline.afterTail₀ cfgs (dats m) 0 (V0 m) [hostOps1] c main_v11 = sumPool (argX m c) (argA m c) (argB m c) := by
  have e : Pipeline.afterTail₀ cfgs (dats m) 0 (V0 m) [hostOps1] c main_v11
      = shapeCast S16x64x256x256 ((dats m 0 c).arrAt 3 cfg0.N : FVec Ideal S1024x256x256 .f32) shapeCasts_S1024x256x256_S16x64x256x256 := by
    show StableHlo.after (List.flatten [hostOps1]) _ _ = _
    simp only [List.flatten_cons, List.flatten_nil, List.append_nil]
    after_results
    have hinj : Function.Injective (Pipeline.arrRef spec0) := by decide
    exact congrArg (fun v : FVec Ideal S1024x256x256 .f32 => shapeCast S16x64x256x256 v shapeCasts_S1024x256x256_S16x64x256x256)
      (Pipeline.withArrays_arr spec0 hinj c (V0 m c) (fun w => (dats m 0 c).arrAt w cfg0.N) 3)
  rw [e, array_eq]
  funext j
  rw [shapeCast_apply (s := S1024x256x256) _ _ j (ix3 ⟨(j 0).val * 64 + (j 1).val, by
      have h0 : (j 0).val < 16 := (j 0).isLt
      have h1 : (j 1).val < 64 := (j 1).isLt
      omega⟩ (j 2) (j 3))
    (by rw [Shape.rowMajor_val_three, Shape.rowMajor_val_four]; rfl)]
  unfold merged
  refine congrArg (sumPool (argX m c) (argA m c) (argB m c)) ?_
  have h1 : (j 1).val < 64 := (j 1).isLt
  funext a
  match a with
  | ⟨0, _⟩ => exact Fin.ext (by show ((j 0).val * 64 + (j 1).val) / 64 = (j 0).val; omega)
  | ⟨1, _⟩ => exact Fin.ext (by show ((j 0).val * 64 + (j 1).val) % 64 = (j 1).val; omega)
  | ⟨2, _⟩ => rfl
  | ⟨3, _⟩ => rfl

/-- THE KERNEL'S RUN: the result is `sumPool` of the arguments, which end unchanged. -/
theorem run : θ_run defs (onTc (τ := τ) (main (F := Ideal))) ⟨m, fun _ => 0, ρ⟩ fun r => ∀ c : Dev nD,
      r.2.mem ((c.tc : Thread nD τ).loc main_v11) = sumPool (argX m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  have out : θ_run defs (onTc (τ := τ) (main (F := Ideal))) ⟨m, fun _ => 0, ρ⟩ fun r => ∀ c : Dev nD,
      r.2.mem ((c.tc : Thread nD τ).loc main_v11) = sumPool (argX m c) (argA m c) (argB m c) :=
    (θ_run defs _ _).mono (fun _ h c =>
      ((h c).2 main_v11 (Pipeline.mem_restRefs_of main_v11 (by decide) (by decide))).trans (result_eq m c)) (run_main m ρ)
  (θ_run defs _ _).mono (fun _ h c => ⟨h.1 c, h.2 c⟩) (θ_run_and out (unchanged m ρ))

end Cert.KernelIdeal.Pooled

end
-- ==== Proof.Reference.lean ====
/-
  What the reference computes: the sum over the two window axes of the images reshaped to six axes, times the
  coefficient, plus the bias, is `sumPool`.
-/
module

public import proofs.«01_k».proof.Proof.Pool
public import proofs.«01_k».proof.Proof.Gen.ReferenceIdeal.Run
public import Idealize.ShloMosaic.Lib.ValueIdx
public import Idealize.ShloMosaic.PureOps.Ideal.Laws
public import Idealize.ShloMosaic.Lib.Pipeline.Value

@[expose] public section

noncomputable section

namespace Cert.ReferenceIdeal.Pooled

open Cert.ReferenceIdeal Cert.ReferenceIdeal.Gen Cert.Pool
open Idealize.ShloMosaic Idealize.ShloMosaic.TcCoe Idealize.ShloMosaic.ValueIdx
open Idealize.SL.Sem
open scoped BigOperators

/-- The sum over the two window axes, at an index of the result: the six-axis indices that reduce to `j` are those
    with `j`'s coordinates on the four kept axes, one for each pair of window positions. -/
theorem window_sum (v : S16x64x256x2x256x2.Idx → EReal) (j : S16x64x256x256.Idx) :
    Ideal.hostReduceAdd reducesTo_S16x64x256x2x256x2_S16x64x256x256_d3_5 v 0 j
      = ∑ p : Fin 2, ∑ q : Fin 2, v (ix6 (j 0) (j 1) (j 2) p (j 3) q) := by
  unfold Ideal.hostReduceAdd
  rw [zero_add, ← Fintype.sum_prod_type' (fun p q : Fin 2 => v (ix6 (j 0) (j 1) (j 2) p (j 3) q))]
  have back (i : S16x64x256x2x256x2.Idx) (hi : reducesTo_S16x64x256x2x256x2_S16x64x256x256_d3_5.drop i = j) :
      ix6 (j 0) (j 1) (j 2) (i 3) (j 3) (i 5) = i := by
    subst hi
    funext a
    match a with
    | ⟨0, _⟩ => rfl
    | ⟨1, _⟩ => rfl
    | ⟨2, _⟩ => rfl
    | ⟨3, _⟩ => rfl
    | ⟨4, _⟩ => rfl
    | ⟨5, _⟩ => rfl
  refine Finset.sum_bij' (fun i _ => ((i 3, i 5) : Fin 2 × Fin 2)) (fun k _ => ix6 (j 0) (j 1) (j 2) k.1 (j 3) k.2)
    (fun _ _ => Finset.mem_univ _) (fun k _ => Finset.mem_filter.mpr ⟨Finset.mem_univ _, ?_⟩)
    (fun i hi => back i (Finset.mem_filter.mp hi).2) (fun _ _ => rfl)
    (fun i hi => congrArg v (back i (Finset.mem_filter.mp hi).2).symm)
  funext b
  match b with
  | ⟨0, _⟩ => rfl
  | ⟨1, _⟩ => rfl
  | ⟨2, _⟩ => rfl
  | ⟨3, _⟩ => rfl

/-- A window of the six-axis images is a 2x2 window of the four-axis ones. -/
theorem images_apply (x : FVec Ideal S16x64x512x512 .f32) (n : Fin 16) (c : Fin 64) (h w : Fin 256) (p q : Fin 2) :
    shapeCast S16x64x256x2x256x2 x shapeCasts_S16x64x512x512_S16x64x256x2x256x2 (ix6 n c h p w q)
      = x (ix4 n c (twice h p) (twice w q)) := by
  refine shapeCast_apply _ _ _ _ ?_
  rw [Shape.rowMajor_val_four, Shape.rowMajor_val_six]
  show ((n.val * 64 + c.val) * 512 + (2 * h.val + p.val)) * 512 + (2 * w.val + q.val)
    = ((((n.val * 64 + c.val) * 256 + h.val) * 2 + p.val) * 256 + w.val) * 2 + q.val
  omega

/-- The one element of a one-element array, broadcast over the result. -/
theorem scalar_apply (v : FVec Ideal S1 .f32) (j : S16x64x256x256.Idx) :
    broadcastInDim S16x64x256x256 ![] bcast_S_S16x64x256x256 (shapeCast S_ v shapeCasts_S1_S_) j = v (ix1 0) := by
  rw [broadcastInDim_apply _ _ _ _ ix0 (fun a => a.elim0)]
  refine shapeCast_apply _ _ _ _ ?_
  rfl

/-- THE REFERENCE'S TERM is `sumPool` of its arguments. -/
theorem term_eq (x : FVec Ideal S16x64x512x512 .f32) (a b : FVec Ideal S1 .f32) :
    addf (mulf (broadcastInDim S16x64x256x256 ![] bcast_S_S16x64x256x256 (shapeCast S_ a shapeCasts_S1_S_))
        (Host.reduceAdd (shapeCast S16x64x256x2x256x2 x shapeCasts_S16x64x512x512_S16x64x256x2x256x2)
          (constant S_ .f32 0x00000000#32) reducesTo_S16x64x256x2x256x2_S16x64x256x256_d3_5 h_S_))
      (broadcastInDim S16x64x256x256 ![] bcast_S_S16x64x256x256 (shapeCast S_ b shapeCasts_S1_S_))
      = sumPool x (a (ix1 0)) (b (ix1 0)) := by
  funext j
  rw [addf_apply, mulf_apply, scalar_apply, scalar_apply]
  show _ * Ideal.hostReduceAdd _ _ (Ideal.ofBits .f32 0x00000000#32) j + _ = _
  rw [Ideal.ofBits_zero_f32, window_sum]
  unfold sumPool
  refine congrArg (fun s => a (ix1 0) * s + b (ix1 0)) ?_
  refine Finset.sum_congr rfl fun p _ => Finset.sum_congr rfl fun q _ => ?_
  exact images_apply x (j 0) (j 1) (j 2) (j 3) p q

variable (m : (ℓ : Loc nD τ sig) → Buf (Elt Ideal) ℓ) (ρ : Dev nD → PrngReg)

/-- The reference's run: the result is `sumPool` of the arguments, which end unchanged. -/
theorem run : θ_run defs (onTc (τ := τ) (main (F := Ideal))) ⟨m, fun _ => 0, ρ⟩ fun r => ∀ c : Dev nD,
      r.2.mem ((c.tc : Thread nD τ).loc main_v7) = sumPool (m ((c.tc : Thread nD τ).loc main_arg0))
          ((m ((c.tc : Thread nD τ).loc main_arg1) : FVec Ideal S1 .f32) (ix1 0))
          ((m ((c.tc : Thread nD τ).loc main_arg2) : FVec Ideal S1 .f32) (ix1 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (term_eq _ _ _), (h c).2⟩) (Cert.ReferenceIdeal.Value.run m ρ)

end Cert.ReferenceIdeal.Pooled

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference has no semaphore, so that its run leaves every counter at zero. -/
theorem reference_quiescent : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)

/-- From equal arguments, the kernel and the reference both end with `sumPool` of them. -/
theorem same_results : Cert.algebraic_KernelIdeal_ReferenceIdeal (hKernelIdeal := Cert.KernelIdeal.Gen.facts)
    (hReferenceIdeal := Cert.ReferenceIdeal.Gen.facts) := fun m g m' g' _ hargs =>
  ⟨_, Cert.KernelIdeal.Pooled.run m g, (θ_run _ _ _).mono (fun _ h c => ⟨(h c).1.trans (by
    rw [(hargs c).1, (hargs c).2.1, (hargs c).2.2]), (h c).2⟩) (Cert.ReferenceIdeal.Pooled.run m' g')⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_quiescent,
    trivial, same_results⟩

end Cert.Proof

end
